-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tasks_and_logits_ok [hPre_tasks_and_logits_ok : Cert.Pre_tasks_and_logits_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tasks_and_logits_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tasks_and_logits_ok [hPre_tasks_and_logits_ok : Cert.Pre_tasks_and_logits_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tasks_and_logits_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tasks_and_logits_ok [hKernelIdeal : Cert.KernelIdeal.Facts] [hPre_tasks_and_logits_ok : Cert.Pre_tasks_and_logits_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tasks_and_logits_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tasks_and_logits_ok [hReferenceIdeal : Cert.ReferenceIdeal.Facts] [hPre_tasks_and_logits_ok : Cert.Pre_tasks_and_logits_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tasks_and_logits_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tasks_and_logits_ok [hKernelIdeal : Cert.KernelIdeal.Facts] [hReferenceIdeal : Cert.ReferenceIdeal.Facts] [hPre_tasks_and_logits_ok : Cert.Pre_tasks_and_logits_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tasks_and_logits_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_cst_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_cst_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_cst_6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tasks_and_logits_ok : Cert.Pre_tasks_and_logits_ok.Facts),
    quiescent_Kernel (hKernel := hKernel)
    ∧ quiescent_KernelIdeal (hKernelIdeal := hKernelIdeal)
    ∧ quiescent_KernelIdeal_pre_tasks_and_logits_ok (hKernelIdeal := hKernelIdeal) (hPre_tasks_and_logits_ok := hPre_tasks_and_logits_ok)
    ∧ quiescent_ReferenceIdeal (hReferenceIdeal := hReferenceIdeal)
    ∧ quiescent_ReferenceIdeal_pre_tasks_and_logits_ok (hReferenceIdeal := hReferenceIdeal) (hPre_tasks_and_logits_ok := hPre_tasks_and_logits_ok)
    ∧ preserves_Kernel_KernelIdeal
    ∧ algebraic_KernelIdeal_ReferenceIdeal_pre_tasks_and_logits_ok (hKernelIdeal := hKernelIdeal) (hReferenceIdeal := hReferenceIdeal) (hPre_tasks_and_logits_ok := hPre_tasks_and_logits_ok)
-- ==== Pre_tasks_and_logits_ok.lean ====
abbrev S2048x1024 : Shape := ⟨2, ![2048, 1024]⟩
abbrev S2048x1 : Shape := ⟨2, ![2048, 1]⟩
abbrev S16x8 : Shape := ⟨2, ![16, 8]⟩
abbrev S8x1024x1024 : Shape := ⟨3, ![8, 1024, 1024]⟩
abbrev S8x1024 : Shape := ⟨2, ![8, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel
  bcast_S_S16x8 : S_.BroadcastsInDim S16x8 (![] : Fin 0 → Fin S16x8.rank)
  reducesTo_S16x8_S_d0_1 : S16x8.ReducesTo [0, 1] S_

variable [Facts]

def fn {F : FTy → Type} [FloatOps F] (main_arg0 : FVec F S2048x1024 .f32) (main_arg1 : IVec S2048x1 32) (main_arg2 : FVec F S16x8 .f32) (main_arg3 : FVec F S16x8 .f32) (main_arg4 : FVec F S8x1024x1024 .f32) (main_arg5 : FVec F S8x1024 .f32) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg1 main_v0
  let main_c_0 : IVec S_ 32 := constantI S_ 32 16#32
  let main_v2 : IVec S2048x1 32 := broadcastInDim S2048x1 ![] bcast_S_S2048x1 main_c_0
  let main_v3 : IVec S2048x1 1 := cmpi .slt main_arg1 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  let main_v6 : FVec F S16x8 .f32 := Host.absf main_arg3
  let main_cst : FVec F S_ .f32 := constant S_ .f32 0x7F800000#32
  let main_v7 : FVec F S16x8 .f32 := broadcastInDim S16x8 ![] bcast_S_S16x8 main_cst
  let main_v8 : IVec S16x8 1 := cmpf .olt main_v6 main_v7
  let main_c_2 : IVec S_ 1 := constantI S_ 1 1#1
  let main_v9 : IVec S_ 1 := (fun x v => Host.reduce IntOp.andi x v reducesTo_S16x8_S_d0_1 h_S_) main_v8 main_c_2
  let main_v10 : IVec S_ 1 := andi main_v5 main_v9
  main_v10
-- ==== Kernel.lean ====
abbrev S2048x1024 : Shape := ⟨2, ![2048, 1024]⟩
abbrev S2048x1 : Shape := ⟨2, ![2048, 1]⟩
abbrev S16x8 : Shape := ⟨2, ![16, 8]⟩
abbrev S8x1024x1024 : Shape := ⟨3, ![8, 1024, 1024]⟩
abbrev S8x1024 : Shape := ⟨2, ![8, 1024]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S8x128x128 : Shape := ⟨3, ![8, 128, 128]⟩
abbrev S8x128x1024 : Shape := ⟨3, ![8, 128, 1024]⟩
abbrev S1x128x128 : Shape := ⟨3, ![1, 128, 128]⟩
abbrev S2048x128 : Shape := ⟨2, ![2048, 128]⟩
abbrev S2048x16 : Shape := ⟨2, ![2048, 16]⟩
abbrev S2048x8 : Shape := ⟨2, ![2048, 8]⟩
abbrev S2048 : Shape := ⟨1, ![2048]⟩
abbrev S2048x120 : Shape := ⟨2, ![2048, 120]⟩
abbrev S1024x1024 : Shape := ⟨2, ![1024, 1024]⟩
abbrev S128x128 : Shape := ⟨2, ![128, 128]⟩

abbrev nBuf : Space → Nat
  | .hbm => 15
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1, .i32⟩
  | .hbm, ⟨2, _⟩ => ⟨S16x8, .f32⟩
  | .hbm, ⟨3, _⟩ => ⟨S16x8, .f32⟩
  | .hbm, ⟨4, _⟩ => ⟨S8x1024x1024, .f32⟩
  | .hbm, ⟨5, _⟩ => ⟨S8x1024, .f32⟩
  | .hbm, ⟨6, _⟩ => ⟨S1024x8, .f32⟩
  | .hbm, ⟨7, _⟩ => ⟨S_, .f32⟩
  | .hbm, ⟨8, _⟩ => ⟨S1024x120, .f32⟩
  | .hbm, ⟨9, _⟩ => ⟨S1024x128, .f32⟩
  | .hbm, ⟨10, _⟩ => ⟨S8x128x128, .f32⟩
  | .hbm, ⟨11, _⟩ => ⟨S2048x1024, .f32⟩
  | .hbm, ⟨12, _⟩ => ⟨S2048x1, .f32⟩
  | .hbm, ⟨13, _⟩ => ⟨S2048, .f32⟩
  | .hbm, ⟨14, _⟩ => ⟨S_, .f32⟩
  | .local _ .vmem, ⟨0, _⟩ => ⟨S2048x1, .i32⟩
  | .local _ .vmem, ⟨1, _⟩ => ⟨S16x8, .f32⟩
  | .local _ .vmem, ⟨2, _⟩ => ⟨S2048x1024, .f32⟩
  | .local _ .vmem, ⟨3, _⟩ => ⟨S8x128x1024, .f32⟩
  | .local _ .vmem, ⟨4, _⟩ => ⟨S8x128x1024, .f32⟩
  | .local _ .vmem, ⟨5, _⟩ => ⟨S1x128x128, .f32⟩
  | .local _ .vmem, ⟨6, _⟩ => ⟨S1x128x128, .f32⟩
  | .local _ .vmem, ⟨7, _⟩ => ⟨S2048x128, .f32⟩
  | .local _ .vmem, ⟨8, _⟩ => ⟨S2048x128, .f32⟩
  | .local _ .vmem, ⟨9, _⟩ => ⟨S2048x1, .f32⟩
  | .local _ .vmem, ⟨10, _⟩ => ⟨S2048x1024, .f32⟩
  | .local _ .vmem, ⟨11, _⟩ => ⟨S2048x128, .bf16⟩
  | .local _ .vmem, ⟨12, _⟩ => ⟨S2048x1024, .bf16⟩
  | .local _ .vmem, ⟨13, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_cst_0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2048x1024 : Shape := ⟨2, ![2048, 1024]⟩
abbrev S2048x1 : Shape := ⟨2, ![2048, 1]⟩
abbrev S16x8 : Shape := ⟨2, ![16, 8]⟩
abbrev S8x1024x1024 : Shape := ⟨3, ![8, 1024, 1024]⟩
abbrev S8x1024 : Shape := ⟨2, ![8, 1024]⟩
abbrev S_ : Shape := ⟨0, ![]⟩
abbrev S2048x1x1 : Shape := ⟨3, ![2048, 1, 1]⟩
abbrev S1 : Shape := ⟨1, ![1]⟩
abbrev S1x1x1 : Shape := ⟨3, ![1, 1, 1]⟩
abbrev S2048x1x8 : Shape := ⟨3, ![2048, 1, 8]⟩
abbrev S2048x8 : Shape := ⟨2, ![2048, 8]⟩
abbrev S2048 : Shape := ⟨1, ![2048]⟩
abbrev S2048x8x1024 : Shape := ⟨3, ![2048, 8, 1024]⟩
abbrev S1x8x1024 : Shape := ⟨3, ![1, 8, 1024]⟩
abbrev S2048x8x1 : Shape := ⟨3, ![2048, 8, 1]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1, .i32⟩
  | .hbm, ⟨2, _⟩ => ⟨S16x8, .f32⟩
  | .hbm, ⟨3, _⟩ => ⟨S16x8, .f32⟩
  | .hbm, ⟨4, _⟩ => ⟨S8x1024x1024, .f32⟩
  | .hbm, ⟨5, _⟩ => ⟨S8x1024, .f32⟩
  | .hbm, ⟨6, _⟩ => ⟨S_, .i32⟩
  | .hbm, ⟨7, _⟩ => ⟨S2048x1, .i32⟩
  | .hbm, ⟨8, _⟩ => ⟨S2048x1, .i1⟩
  | .hbm, ⟨9, _⟩ => ⟨S_, .i32⟩
  | .hbm, ⟨10, _⟩ => ⟨S2048x1, .i32⟩
  | .hbm, ⟨11, _⟩ => ⟨S2048x1, .i32⟩
  | .hbm, ⟨12, _⟩ => ⟨S2048x1, .i32⟩
  | .hbm, ⟨13, _⟩ => ⟨S2048x1x1, .i32⟩
  | .hbm, ⟨14, _⟩ => ⟨S1, .i32⟩
  | .hbm, ⟨15, _⟩ => ⟨S_, .i32⟩
  | .hbm, ⟨16, _⟩ => ⟨S2048x1x1, .i32⟩
  | .hbm, ⟨17, _⟩ => ⟨S2048x1x1, .i1⟩
  | .hbm, ⟨18, _⟩ => ⟨S1x1x1, .i32⟩
  | .hbm, ⟨19, _⟩ => ⟨S2048x1x1, .i32⟩
  | .hbm, ⟨20, _⟩ => ⟨S2048x1x1, .i1⟩
  | .hbm, ⟨21, _⟩ => ⟨S2048x1x1, .i1⟩
  | .hbm, ⟨22, _⟩ => ⟨S_, .i1⟩
  | .hbm, ⟨23, _⟩ => ⟨S2048x1, .i1⟩
  | .hbm, ⟨24, _⟩ => ⟨S2048x1x8, .f32⟩
  | .hbm, ⟨25, _⟩ => ⟨S2048x1x8, .i1⟩
  | .hbm, ⟨26, _⟩ => ⟨S_, .f32⟩
  | .hbm, ⟨27, _⟩ => ⟨S2048x1x8, .f32⟩
  | .hbm, ⟨28, _⟩ => ⟨S2048x1x8, .f32⟩
  | .hbm, ⟨29, _⟩ => ⟨S2048x8, .f32⟩
  | .hbm, ⟨30, _⟩ => ⟨S_, .i32⟩
  | .hbm, ⟨31, _⟩ => ⟨S2048x1, .i32⟩
  | .hbm, ⟨32, _⟩ => ⟨S2048x1, .i1⟩
  | .hbm, ⟨33, _⟩ => ⟨S_, .i32⟩
  | .hbm, ⟨34, _⟩ => ⟨S2048x1, .i32⟩
  | .hbm, ⟨35, _⟩ => ⟨S2048x1, .i32⟩
  | .hbm, ⟨36, _⟩ => ⟨S2048x1, .i32⟩
  | .hbm, ⟨37, _⟩ => ⟨S2048x1x1, .i32⟩
  | .hbm, ⟨38, _⟩ => ⟨S1, .i32⟩
  | .hbm, ⟨39, _⟩ => ⟨S_, .i32⟩
  | .hbm, ⟨40, _⟩ => ⟨S2048x1x1, .i32⟩
  | .hbm, ⟨41, _⟩ => ⟨S2048x1x1, .i1⟩
  | .hbm, ⟨42, _⟩ => ⟨S1x1x1, .i32⟩
  | .hbm, ⟨43, _⟩ => ⟨S2048x1x1, .i32⟩
  | .hbm, ⟨44, _⟩ => ⟨S2048x1x1, .i1⟩
  | .hbm, ⟨45, _⟩ => ⟨S2048x1x1, .i1⟩
  | .hbm, ⟨46, _⟩ => ⟨S_, .i1⟩
  | .hbm, ⟨47, _⟩ => ⟨S2048x1, .i1⟩
  | .hbm, ⟨48, _⟩ => ⟨S2048x1x8, .f32⟩
  | .hbm, ⟨49, _⟩ => ⟨S2048x1x8, .i1⟩
  | .hbm, ⟨50, _⟩ => ⟨S_, .f32⟩
  | .hbm, ⟨51, _⟩ => ⟨S2048x1x8, .f32⟩
  | .hbm, ⟨52, _⟩ => ⟨S2048x1x8, .f32⟩
  | .hbm, ⟨53, _⟩ => ⟨S2048x8, .f32⟩
  | .hbm, ⟨54, _⟩ => ⟨S_, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x1, .f32⟩
  | .hbm, ⟨60, _⟩ => ⟨S2048x8, .f32⟩
  | .hbm, ⟨61, _⟩ => ⟨S2048x8, .f32⟩
  | .hbm, ⟨62, _⟩ => ⟨S2048x8, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x8, .f32⟩
  | .hbm, ⟨67, _⟩ => ⟨S2048x8, .f32⟩
  | .hbm, ⟨68, _⟩ => ⟨S_, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048, .f32⟩
  | .hbm, ⟨74, _⟩ => ⟨S2048x8x1024, .f32⟩
  | .hbm, ⟨75, _⟩ => ⟨S1x8x1024, .f32⟩
  | .hbm, ⟨76, _⟩ => ⟨S2048x8x1024, .f32⟩
  | .hbm, ⟨77, _⟩ => ⟨S2048x8x1024, .f32⟩
  | .hbm, ⟨78, _⟩ => ⟨S2048x8x1, .f32⟩
  | .hbm, ⟨79, _⟩ => ⟨S2048x8x1024, .f32⟩
  | .hbm, ⟨80, _⟩ => ⟨S2048x8x1024, .f32⟩
  | .hbm, ⟨81, _⟩ => ⟨S_, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048, .f32⟩
  | .hbm, ⟨86, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v2 : Ref sig .tc := ⟨.hbm, 52, rfl⟩
abbrev main_v3 : Ref sig .tc := ⟨.hbm, 53, rfl⟩
abbrev main_cst : Ref sig .tc := ⟨.hbm, 54, rfl⟩
abbrev main_v4 : Ref sig .tc := ⟨.hbm, 55, rfl⟩
abbrev main_cst_0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_1 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst_2 : Ref sig .tc := ⟨.hbm, 68, rfl⟩
abbrev main_v15 : Ref sig .tc := ⟨.hbm, 69, rfl⟩
abbrev main_cst_3 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_cst_4 : Ref sig .tc := ⟨.hbm, 81, rfl⟩
abbrev main_v26 : Ref sig .tc := ⟨.hbm, 82, rfl⟩
abbrev main_cst_5 : Ref sig .tc := ⟨.hbm, 83, rfl⟩
abbrev main_v27 : Ref sig .tc := ⟨.hbm, 84, rfl⟩
abbrev main_v28 : Ref sig .tc := ⟨.hbm, 85, rfl⟩
abbrev main_cst_6 : Ref sig .tc := ⟨.hbm, 86, rfl⟩

abbrev nD : Nat := 1
abbrev τ : Topo := Topo.v7x

variable {F : FTy → Type} [FloatOps F]
-- ==== Proof.Kit.lean ====
module

public import proofs.«01_k».proof.Proof.Gen.KernelIdeal.Frame
public import proofs.«01_k».proof.Proof.Gen.KernelIdeal.Skeleton
public import Idealize.ShloMosaic.Lib.Pipeline.ReadBack
public import Idealize.ShloMosaic.Lib.Pipeline.ValueKit
public import Idealize.ShloMosaic.Lib.Pointwise

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body's one branch is taken at the grid coordinates `i`. -/
abbrev AtFirst (i : grid0.Coords) : Prop := k0_cond1 i = 1#1

/-- The branch is taken at the first grid point and at no other. -/
theorem atFirst_iff : ∀ t : Fin cfg0.N, AtFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [AtFirst, k0_cond1, e0]
    word_cmp
   : ∀ t : Fin grid0.N, AtFirst (grid0.coords t) ↔ t.val = 0)

/-- The staging buffer of each window at the point `t`, and that it is a whole buffer. -/
abbrev st0 (t : Fin cfg0.N) : Memref sig .tc .vmem S2048x1 .i32 := win0_0.stage (cfg0.slots t 0)
abbrev wh0 (t : Fin cfg0.N) : (st0 t).IsWhole := hstage0_0 ((cfg0.slots t 0).cast nbuf0_0)
abbrev st1 (t : Fin cfg0.N) : Memref sig .tc .vmem S16x8 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S2048x1024 .f32 := win0_2.stage (cfg0.slots t 2)
abbrev wh2 (t : Fin cfg0.N) : (st2 t).IsWhole := hstage0_2 ((cfg0.slots t 2).cast nbuf0_2)
abbrev st3 (t : Fin cfg0.N) : Memref sig .tc .vmem S8x128x1024 .f32 := win0_3.stage (cfg0.slots t 3)
abbrev wh3 (t : Fin cfg0.N) : (st3 t).IsWhole := hstage0_3 ((cfg0.slots t 3).cast nbuf0_3)
abbrev st4 (t : Fin cfg0.N) : Memref sig .tc .vmem S1x128x128 .f32 := win0_4.stage (cfg0.slots t 4)
abbrev wh4 (t : Fin cfg0.N) : (st4 t).IsWhole := hstage0_4 ((cfg0.slots t 4).cast nbuf0_4)
abbrev st5 (t : Fin cfg0.N) : Memref sig .tc .vmem S2048x128 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S2048x1 .f32 := win0_6.stage (cfg0.slots t 6)
abbrev wh6 (t : Fin cfg0.N) : (st6 t).IsWhole := hstage0_6 ((cfg0.slots t 6).cast nbuf0_6)
/-- The four scratch buffers: the spread weights, the padded weights, the rounded input, the products. -/
abbrev sc0 : Memref sig .tc .vmem S2048x1024 .f32 := Memref.whole cc0_scratch0
abbrev sc1 : Memref sig .tc .vmem S2048x128 .bf16 := Memref.whole cc0_scratch1
abbrev sc2 : Memref sig .tc .vmem S2048x1024 .bf16 := Memref.whole cc0_scratch2
abbrev sc3 : Memref sig .tc .vmem S2048x1024 .f32 := Memref.whole cc0_scratch3

/-- What the launch hands the region, with the scratch as buffers owned at some contents. -/
theorem entry_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## What one grid point stores -/

/-- The routing weights of the tasks `e` under the logits `g`, one row of eight per example, each spread over 128 lanes. -/
def spread (e : Vec F S2048x1 .i32) (g : Vec F S16x8 .f32) : Vec F S2048x1024 .f32 :=
  fun j => k0_pay2 e g (ix2 (n0 := 2048) (n1 := 8) (j 0) ⟨(j 1 : ℕ) / 128, by have : (j 1 : ℕ) < 1024 := (j 1).isLt; omega⟩)

/-- The routing weights of a row followed by 120 zeros. -/
def padded (e : Vec F S2048x1 .i32) (g : Vec F S16x8 .f32) : Vec F S2048x128 .bf16 := k0_pay15 (k0_pay2 e g) k0_pay14

/-- A load of 128 columns of a buffer after one store of all of it reads those columns of what was stored. -/
theorem readCov_cols {v : View sig .tc .vmem S2048x1024 .f32} {o : ℕ} (Z : Vec F S2048x1024 .f32)
    (inb : ∀ a, (![0, 0] : Fin S2048x1024.rank → ℕ) a + S2048x1024.size a ≤ S2048x1024.size a)
    (inb' : ∀ a, (![0, o] : Fin S2048x1024.rank → ℕ) a + (![2048, 128] : Fin S2048x1024.rank → ℕ) a ≤ S2048x1024.size a)
    (hs : S2048x1024.Slices ![0, o] S2048x128) :
    v.readCov [(⟨Rect.unit (s := S2048x1024) ![0, 0] ![2048, 1024] inb, Z⟩ : View.Piece (Elt F) S2048x1024 .f32)]
      (Rect.unit (s := S2048x1024) ![0, o] ![2048, 128] inb').toLoadRect = extractStridedSlice S2048x128 ![0, o] Z hs :=
  (View.readCov_fill v inb Z [] _ (by decide)).trans (by
    funext j
    exact congrArg Z (funext fun a => Fin.ext (by simp [Rect.unit, LoadRect.idx, Rect.toLoadRect])))

/-- The block of 128 output columns of one grid point, from the spread weights `sp`, the padded weights `pd`, the
    rounded input `xr`, the point's block of the weight matrices `w` and its block of the biases `bb`: the bias term
    and then the eight blocks' products, each scaled by its weight, added one after the other. -/
def blockOut (sp : Vec F S2048x1024 .f32) (pd : Vec F S2048x128 .bf16) (xr : Vec F S2048x1024 .bf16)
    (w : Vec F S8x128x1024 .f32) (bb : Vec F S1x128x128 .f32) : Vec F S2048x128 .f32 :=
  k0_pay1 sp
    (k0_pay17 pd bb sp (extractStridedSlice S2048x128 ![0, 0] (k0_pay16 xr w) slices_S2048x1024_o0_0_S2048x128)
      (extractStridedSlice S2048x128 ![0, 128] (k0_pay16 xr w) slices_S2048x1024_o0_128_S2048x128)
      (extractStridedSlice S2048x128 ![0, 256] (k0_pay16 xr w) slices_S2048x1024_o0_256_S2048x128))
    (k0_pay18 sp)
    (extractStridedSlice S2048x128 ![0, 384] (k0_pay16 xr w) slices_S2048x1024_o0_384_S2048x128)
    (extractStridedSlice S2048x128 ![0, 512] (k0_pay16 xr w) slices_S2048x1024_o0_512_S2048x128)
    (extractStridedSlice S2048x128 ![0, 640] (k0_pay16 xr w) slices_S2048x1024_o0_640_S2048x128)
    (extractStridedSlice S2048x128 ![0, 768] (k0_pay16 xr w) slices_S2048x1024_o0_768_S2048x128)
    (extractStridedSlice S2048x128 ![0, 896] (k0_pay16 xr w) slices_S2048x1024_o0_896_S2048x128)

/-! ## The eight stores that spread the weights -/

/-- The eight column blocks the first point stores into the first scratch buffer, the last one first. -/
def spreadPieces (e : Vec F S2048x1 .i32) (g : Vec F S16x8 .f32) : List (View.Piece (Elt F) S2048x1024 .f32) :=
  [⟨Rect.unit (s := S2048x1024) ![0, 896] ![2048, 128] inb_S2048x1024_S2048x128_0_896, k0_pay13 (k0_pay2 e g)⟩,
   ⟨Rect.unit (s := S2048x1024) ![0, 768] ![2048, 128] inb_S2048x1024_S2048x128_0_768, k0_pay12 (k0_pay2 e g)⟩,
   ⟨Rect.unit (s := S2048x1024) ![0, 640] ![2048, 128] inb_S2048x1024_S2048x128_0_640, k0_pay11 (k0_pay2 e g)⟩,
   ⟨Rect.unit (s := S2048x1024) ![0, 512] ![2048, 128] inb_S2048x1024_S2048x128_0_512, k0_pay10 (k0_pay2 e g)⟩,
   ⟨Rect.unit (s := S2048x1024) ![0, 384] ![2048, 128] inb_S2048x1024_S2048x128_0_384, k0_pay9 (k0_pay2 e g)⟩,
   ⟨Rect.unit (s := S2048x1024) ![0, 256] ![2048, 128] inb_S2048x1024_S2048x128_0_256, k0_pay8 (k0_pay2 e g)⟩,
   ⟨Rect.unit (s := S2048x1024) ![0, 128] ![2048, 128] inb_S2048x1024_S2048x128_0_128, k0_pay7 (k0_pay6 e g)⟩,
   ⟨Rect.unit (s := S2048x1024) ![0, 0] ![2048, 128] inb_S2048x1024_S2048x128_0_0, k0_pay5 e g⟩]

/-- The spread weights at the place of lane `x` of column block `k` are the weight `k` of the row. -/
theorem spread_emb (e : Vec F S2048x1 .i32) (g : Vec F S16x8 .f32) (k : Fin 8) (o : ℕ) (ho : o = 128 * (k : ℕ))
    (inb : ∀ a, (![0, o] : Fin S2048x1024.rank → ℕ) a + S2048x128.size a ≤ S2048x1024.size a) (x : S2048x128.Idx) :
    k0_pay2 e g (ix2 (n0 := 2048) (n1 := 8) (x 0) k) = spread e g ((Rect.unit (s := S2048x1024) ![0, o] S2048x128.size inb).emb x) := by
  have h1 : (x 1 : ℕ) < 128 := (x 1).isLt
  refine congrArg (k0_pay2 e g) (congrArg₂ (ix2 (n0 := 2048) (n1 := 8)) (Fin.ext ?_) (Fin.ext ?_))
  · simp [Rect.emb, Rect.unit]
  · simp [Rect.emb, Rect.unit]; omega

/-- Each stored block is its part of the spread weights. -/
theorem spreadPieces_of (e : Vec F S2048x1 .i32) (g : Vec F S16x8 .f32) : View.PiecesOf (spread e g) (spreadPieces e g) := by
  refine ⟨fun x => Eq.trans ?_ (spread_emb e g 7 896 rfl inb_S2048x1024_S2048x128_0_896 x),
    fun x => Eq.trans ?_ (spread_emb e g 6 768 rfl inb_S2048x1024_S2048x128_0_768 x),
    fun x => Eq.trans ?_ (spread_emb e g 5 640 rfl inb_S2048x1024_S2048x128_0_640 x),
    fun x => Eq.trans ?_ (spread_emb e g 4 512 rfl inb_S2048x1024_S2048x128_0_512 x),
    fun x => Eq.trans ?_ (spread_emb e g 3 384 rfl inb_S2048x1024_S2048x128_0_384 x),
    fun x => Eq.trans ?_ (spread_emb e g 2 256 rfl inb_S2048x1024_S2048x128_0_256 x),
    fun x => Eq.trans ?_ (spread_emb e g 1 128 rfl inb_S2048x1024_S2048x128_0_128 x),
    fun x => Eq.trans ?_ (spread_emb e g 0 0 rfl inb_S2048x1024_S2048x128_0_0 x), trivial⟩
  all_goals pointwise [k0_pay5, k0_pay6, k0_pay7, k0_pay8, k0_pay9, k0_pay10, k0_pay11, k0_pay12, k0_pay13]

/-- Together they leave the spread weights in the whole buffer, -/
theorem canon_spread (e : Vec F S2048x1 .i32) (g : Vec F S16x8 .f32) : View.canon (spreadPieces e g) = spread e g :=
  funext fun y => View.canon_apply_of_pieces (spread e g) _ (spreadPieces_of e g).mem y
    (View.cover_of_tiledL (spreadPieces e g) S2048x128.size (by sl_kernel_rfl) y)

/-- and a load of all of it after them reads the spread weights. -/
theorem readCov_spread (v : View sig .tc .vmem S2048x1024 .f32) (e : Vec F S2048x1 .i32) (g : Vec F S16x8 .f32)
    (inb : ∀ a, (![0, 0] : Fin S2048x1024.rank → ℕ) a + (![2048, 1024] : Fin S2048x1024.rank → ℕ) a ≤ S2048x1024.size a) :
    v.readCov (spreadPieces e g) (Rect.unit (s := S2048x1024) ![0, 0] ![2048, 1024] inb).toLoadRect = spread e g := by
  rw [View.readCov_eq_canon', canon_spread]
  exact View.ld_unit_lit (S := S2048x1024) inb (spread e g) (by decide)

end Cert.KernelIdeal.Fused

end
-- ==== Proof.RunA.lean ====
module

public import proofs.«01_k».proof.Proof.Kit

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
theorem body_first (c : Dev nD) (i : grid0.Coords) (arg1 : Memref sig .tc .vmem S2048x1 .i32) (harg1 : arg1.IsWhole) (arg2 : Memref sig .tc .vmem S16x8 .f32) (harg2 : arg2.IsWhole) (arg3 : Memref sig .tc .vmem S2048x1024 .f32) (harg3 : arg3.IsWhole)
    (arg4 : Memref sig .tc .vmem S8x128x1024 .f32) (harg4 : arg4.IsWhole) (arg5 : Memref sig .tc .vmem S1x128x128 .f32) (harg5 : arg5.IsWhole) (arg6 : Memref sig .tc .vmem S2048x128 .f32) (harg6 : arg6.IsWhole)
    (arg7 : Memref sig .tc .vmem S2048x1 .f32) (harg7 : arg7.IsWhole) (arg8 : Memref sig .tc .vmem S2048x1024 .f32) (harg8 : arg8.IsWhole) (arg9 : Memref sig .tc .vmem S2048x128 .bf16) (harg9 : arg9.IsWhole)
    (arg10 : Memref sig .tc .vmem S2048x1024 .bf16) (harg10 : arg10.IsWhole) (arg11 : Memref sig .tc .vmem S2048x1024 .f32) (harg11 : arg11.IsWhole)
    (hc0 : AtFirst i)
    (x0 : Vec F S2048x1 .i32) (x1 : Vec F S16x8 .f32) (x2 : Vec F S2048x1024 .f32) (x3 : Vec F S8x128x1024 .f32) (x4 : Vec F S1x128x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (blockOut (spread x0 x1) (padded x0 x1) (k0_pay4 x2) x3 x4) ∗ owns (c : Thread nD τ) arg7 fullShare (k0_pay3 x0 x1)
        ∗ owns (c : Thread nD τ) arg8 fullShare (spread x0 x1) ∗ owns (c : Thread nD τ) arg9 fullShare (padded x0 x1) ∗ owns (c : Thread nD τ) arg10 fullShare (k0_pay4 x2) ∗ (∃ d, owns (c : Thread nD τ) arg11 fullShare d)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    rw [View.read_writes_eq_canon _ _ _ (View.cover_of_tiledL _ S2048x128.size (by sl_kernel_rfl))]
    delta body_first.sl.v16 body_first.sl.r_2 body_first.sl.r_3 body_first.sl.v30 body_first.sl.v34 body_first.sl.v38 body_first.sl.v42 body_first.sl.v46
    frame_out
    have hs := readCov_spread arg8.view x0 x1 inb_S2048x1024_S2048x1024_0_0
    unfold spreadPieces at hs
    rw [hs]
    unfold blockOut
    rw [readCov_cols _ _ _ slices_S2048x1024_o0_0_S2048x128, readCov_cols _ _ _ slices_S2048x1024_o0_128_S2048x128,
      readCov_cols _ _ _ slices_S2048x1024_o0_256_S2048x128, readCov_cols _ _ _ slices_S2048x1024_o0_384_S2048x128,
      readCov_cols _ _ _ slices_S2048x1024_o0_512_S2048x128, readCov_cols _ _ _ slices_S2048x1024_o0_640_S2048x128,
      readCov_cols _ _ _ slices_S2048x1024_o0_768_S2048x128, readCov_cols _ _ _ slices_S2048x1024_o0_896_S2048x128]
    rfl
  isplitl [H6]
  · iexists _; isplitr; swap; · iexact H6
    ipureintro
    rw [View.read_writes_eq_canon _ _ _ (View.cover_of_tiledL _ S2048x1.size (by sl_kernel_rfl))]
    frame_out
  isplitl [HS0]
  · iexists _; isplitr; swap; · iexact HS0
    ipureintro
    delta body_first.sl.HS0_8
    refine (View.read_writes_eq_canon (Val := Elt F) arg8.view _ _ (View.cover_of_tiledL _ S2048x128.size (by sl_kernel_rfl))).trans ?_
    delta body_first.sl.r body_first.sl.r_1
    frame_out
    exact canon_spread x0 x1
  isplitl [HS1]
  · iexists _; isplitr; swap; · iexact HS1
    ipureintro
    delta body_first.sl.HS1_1
    rw [View.read_writes_eq_canon _ _ _ (View.cover_of_tiledL _ S2048x128.size (by sl_kernel_rfl))]
    frame_out
    rfl
  isplitl [HS2]
  · iexists _; isplitr; swap; · iexact HS2
    ipureintro
    delta body_first.sl.HS2_1
    rw [View.read_writes_eq_canon _ _ _ (View.cover_of_tiledL _ S2048x1024.size (by sl_kernel_rfl))]
    frame_out
  iexists _, _; isplitr; swap; · iexact HS3
  ipureintro; rfl

end Cert.KernelIdeal.Fused

end
-- ==== Proof.RunB.lean ====
module

public import proofs.«01_k».proof.Proof.Kit

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
theorem body_later (c : Dev nD) (i : grid0.Coords) (arg1 : Memref sig .tc .vmem S2048x1 .i32) (harg1 : arg1.IsWhole) (arg2 : Memref sig .tc .vmem S16x8 .f32) (harg2 : arg2.IsWhole) (arg3 : Memref sig .tc .vmem S2048x1024 .f32) (harg3 : arg3.IsWhole)
    (arg4 : Memref sig .tc .vmem S8x128x1024 .f32) (harg4 : arg4.IsWhole) (arg5 : Memref sig .tc .vmem S1x128x128 .f32) (harg5 : arg5.IsWhole) (arg6 : Memref sig .tc .vmem S2048x128 .f32) (harg6 : arg6.IsWhole)
    (arg7 : Memref sig .tc .vmem S2048x1 .f32) (harg7 : arg7.IsWhole) (arg8 : Memref sig .tc .vmem S2048x1024 .f32) (harg8 : arg8.IsWhole) (arg9 : Memref sig .tc .vmem S2048x128 .bf16) (harg9 : arg9.IsWhole)
    (arg10 : Memref sig .tc .vmem S2048x1024 .bf16) (harg10 : arg10.IsWhole) (arg11 : Memref sig .tc .vmem S2048x1024 .f32) (harg11 : arg11.IsWhole)
    (hc0 : ¬AtFirst i)
    (x0 : Vec F S2048x1 .i32) (x1 : Vec F S16x8 .f32) (x2 : Vec F S2048x1024 .f32) (x3 : Vec F S8x128x1024 .f32) (x4 : Vec F S1x128x128 .f32) (lp : Vec F S2048x1 .f32)
    (sp : Vec F S2048x1024 .f32) (pd : Vec F S2048x128 .bf16) (xr : Vec F S2048x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare lp ∗ owns (c : Thread nD τ) arg8 fullShare sp ∗ owns (c : Thread nD τ) arg9 fullShare pd ∗ owns (c : Thread nD τ) arg10 fullShare xr ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare (blockOut sp pd xr x3 x4) ∗ owns (c : Thread nD τ) arg7 fullShare lp ∗ owns (c : Thread nD τ) arg8 fullShare sp ∗ owns (c : Thread nD τ) arg9 fullShare pd ∗ owns (c : Thread nD τ) arg10 fullShare xr ∗ (∃ d, owns (c : Thread nD τ) arg11 fullShare d)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, ⟨%fs2, %hfs2, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hfs0; obtain rfl := harg9.eq_unread hfs1; obtain rfl := harg10.eq_unread hfs2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    rw [View.read_writes_eq_canon _ _ _ (View.cover_of_tiledL _ S2048x128.size (by sl_kernel_rfl))]
    delta body_later.sl.r body_later.sl.r_1 body_later.sl.r_2 body_later.sl.v18 body_later.sl.v22 body_later.sl.v26 body_later.sl.v30 body_later.sl.v34 body_later.sl.v38 body_later.sl.v42 body_later.sl.v46 body_later.sl.HS3_1
    frame_out
    unfold blockOut
    rw [readCov_cols _ _ _ slices_S2048x1024_o0_0_S2048x128, readCov_cols _ _ _ slices_S2048x1024_o0_128_S2048x128,
      readCov_cols _ _ _ slices_S2048x1024_o0_256_S2048x128, readCov_cols _ _ _ slices_S2048x1024_o0_384_S2048x128,
      readCov_cols _ _ _ slices_S2048x1024_o0_512_S2048x128, readCov_cols _ _ _ slices_S2048x1024_o0_640_S2048x128,
      readCov_cols _ _ _ slices_S2048x1024_o0_768_S2048x128, readCov_cols _ _ _ slices_S2048x1024_o0_896_S2048x128]
  isplitl [H6]
  · iexists _; isplitr; · ipureintro; exact harg7.read_unread _
    iexact H6
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  iexists _, _; isplitr; swap; · iexact HS3
  ipureintro; rfl

end Cert.KernelIdeal.Fused

end
-- ==== Proof.Body.lean ====
module

public import proofs.«01_k».proof.Proof.RunA
public import proofs.«01_k».proof.Proof.RunB
public import Idealize.ShloMosaic.Lib.Pipeline.TableIdle

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def first : Fin cfg0.N := ⟨0, Nat.lt_of_lt_of_eq (by decide : 0 < 8) N_0.symm⟩

/-- What the first point leaves in the scratch buffers: the spread weights, -/
def spreadOf (c : Dev nD) : Vec F S2048x1024 .f32 := spread (iblk m c 0 first) (iblk m c 1 first)
/-- the padded weights, -/
def paddedOf (c : Dev nD) : Vec F S2048x128 .bf16 := padded (iblk m c 0 first) (iblk m c 1 first)
/-- and the rounded input. -/
def roundedOf (c : Dev nD) : Vec F S2048x1024 .bf16 := k0_pay4 (iblk m c 2 first)
/-- The column of logarithms the first point stores. -/
def logOf (c : Dev nD) : Vec F S2048x1 .f32 := k0_pay3 (iblk m c 0 first) (iblk m c 1 first)
/-- The block of output columns of the point `t`. -/
def outOf (c : Dev nD) (t : Fin cfg0.N) : Vec F S2048x128 .f32 :=
  blockOut (spreadOf m c) (paddedOf m c) (roundedOf m c) (iblk m c 3 t) (iblk m c 4 t)

/-- What is held between points once the first one has run: three scratch buffers at what it left in them, the fourth
    at some contents, and the generator register. -/
def kept (c : Dev nD) : sProp 𝕄 :=
  iprop(iprop(owns (c : Thread nD τ) sc0 fullShare (spreadOf m c) ∗ owns (c : Thread nD τ) sc1 fullShare (paddedOf m c) ∗ owns (c : Thread nD τ) sc2 fullShare (roundedOf m c) ∗ (∃ d, owns (c : Thread nD τ) sc3 fullShare d)) ∗ (∃ r, prngReg c r))

/-- What is held before position `n`: before the first point what the launch hands over, later `kept`. -/
def between (c : Dev nD) : (n : ℕ) → n ≤ cfg0.N → sProp 𝕄
  | 0, _ => Pipeline.ΦA spec0 c
  | _ + 1, _ => kept m c

/-- Before the first point nothing is known of the scratch buffers. -/
theorem between_zero (c : Dev nD) (n : ℕ) (h : n ≤ cfg0.N) (hz : n = 0) : between m c n h = Pipeline.ΦA spec0 c := by
  subst hz; rfl

/-- After the first point the scratch buffers hold what it stored. -/
theorem between_pos (c : Dev nD) (n : ℕ) (h : n ≤ cfg0.N) (hz : n ≠ 0) : between m c n h = kept m c := by
  cases n with
  | zero => exact absurd rfl hz
  | succ n => rfl

/-- The pipeline's proof data: the arrays as the region finds them; after the point `t` each input buffer at its block,
    the sixth buffer at the point's block of output columns, the seventh at the column of logarithms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf m c t
    | ⟨6, _⟩ => logOf m c
  Φ t := between m c t.val (Nat.le_of_lt_succ t.isLt)
  q _ := fullShare
  owed _ := 0

/-- The proof data's arrays are what the region finds. -/
theorem A_eq (c : Dev nD) (w : Fin cfg0.W) : (dats m 0 c).A w = V m c (Pipeline.arrRef spec0 w) := by dsimp only [dats]

/-- What is held when a point starts. -/
theorem held_castSucc (c : Dev nD) (t : Fin cfg0.N) : (dats m 0 c).Φ t.castSucc = between m c t.val (Nat.le_of_lt t.isLt) := by
  dsimp only [dats]; exact Pipeline.Dat.Φ_castSucc (between m c) t

/-- What the body leaves in each window's buffer. -/
theorem after0_0 (c : Dev nD) (t : Fin cfg0.N) : (dats m 0 c).after 0 t = iblk m c 0 t := by dsimp only [dats]
/-- The same of window 1. -/
theorem after0_1 (c : Dev nD) (t : Fin cfg0.N) : (dats m 0 c).after 1 t = iblk m c 1 t := by dsimp only [dats]
/-- The same of window 2. -/
theorem after0_2 (c : Dev nD) (t : Fin cfg0.N) : (dats m 0 c).after 2 t = iblk m c 2 t := by dsimp only [dats]
/-- The same of window 3. -/
theorem after0_3 (c : Dev nD) (t : Fin cfg0.N) : (dats m 0 c).after 3 t = iblk m c 3 t := by dsimp only [dats]
/-- The same of window 4. -/
theorem after0_4 (c : Dev nD) (t : Fin cfg0.N) : (dats m 0 c).after 4 t = iblk m c 4 t := by dsimp only [dats]
/-- The same of window 5. -/
theorem after0_5 (c : Dev nD) (t : Fin cfg0.N) : (dats m 0 c).after 5 t = outOf m c t := by dsimp only [dats]
/-- The same of window 6. -/
theorem after0_6 (c : Dev nD) (t : Fin cfg0.N) : (dats m 0 c).after 6 t = logOf m c := by dsimp only [dats]

/-- What each input's buffer holds when a point starts: its block. -/
theorem before0_0 (c : Dev nD) (t : Fin cfg0.N) (d) : (dats m 0 c).before 0 t d = iblk m c 0 t :=
  before0_0_of m (dats m 0 c) (A_eq m c 0) (after0_0 m c) t d
/-- The same of window 1. -/
theorem before0_1 (c : Dev nD) (t : Fin cfg0.N) (d) : (dats m 0 c).before 1 t d = iblk m c 1 t :=
  before0_1_of m (dats m 0 c) (A_eq m c 1) (after0_1 m c) t d
/-- The same of window 2. -/
theorem before0_2 (c : Dev nD) (t : Fin cfg0.N) (d) : (dats m 0 c).before 2 t d = iblk m c 2 t :=
  before0_2_of m (dats m 0 c) (A_eq m c 2) (after0_2 m c) t d
/-- The same of window 3. -/
theorem before0_3 (c : Dev nD) (t : Fin cfg0.N) (d) : (dats m 0 c).before 3 t d = iblk m c 3 t :=
  before0_3_of m (dats m 0 c) (A_eq m c 3) (after0_3 m c) t d
/-- The same of window 4. -/
theorem before0_4 (c : Dev nD) (t : Fin cfg0.N) (d) : (dats m 0 c).before 4 t d = iblk m c 4 t :=
  before0_4_of m (dats m 0 c) (A_eq m c 4) (after0_4 m c) t d

/-- Once the first point has run, the seventh window's buffer holds what was stored in it, -/
theorem stored6 : ∀ t : Fin cfg0.N, t.val ≠ 0 → cfg0.fresh 6 t.val = false :=
  (by decide +kernel : ∀ t : Fin grid0.N, t.val ≠ 0 → cfg0.fresh 6 t.val = false)

/-- which is the column of logarithms. -/
theorem before0_6 (c : Dev nD) (t : Fin cfg0.N) (ht : t.val ≠ 0) (d) : (dats m 0 c).before 6 t d = logOf m c := by
  rw [(dats m 0 c).before_out_traj 6 rfl (fun _ _ => rfl)
    (fun s _ _ _ => (after0_6 m c s).trans (after0_6 m c _).symm) t.val t rfl d, stored6 t ht, if_neg Bool.false_ne_true]
  exact after0_6 m c _

/-- The windows whose buffer every point stores or reads: what a point must leave in it is `after`. -/
theorem leaves (c : Dev nD) (t : Fin cfg0.N) :
    (dats m 0 c).leavesExact 0 t = owns (c : Thread nD τ) (st0 t) fullShare (iblk m c 0 t)
    ∧ (dats m 0 c).leavesExact 1 t = owns (c : Thread nD τ) (st1 t) fullShare (iblk m c 1 t)
    ∧ (dats m 0 c).leavesExact 2 t = owns (c : Thread nD τ) (st2 t) fullShare (iblk m c 2 t)
    ∧ (dats m 0 c).leavesExact 3 t = owns (c : Thread nD τ) (st3 t) fullShare (iblk m c 3 t)
    ∧ (dats m 0 c).leavesExact 4 t = owns (c : Thread nD τ) (st4 t) fullShare (iblk m c 4 t)
    ∧ (dats m 0 c).leavesExact 5 t = owns (c : Thread nD τ) (st5 t) fullShare (outOf m c t) :=
  ⟨rfl, rfl, rfl, rfl, rfl, rfl⟩

/-- The seventh window: the column of logarithms is what any point must leave in it, whether or not it stores there. -/
theorem leaves6 (c : Dev nD) (t : Fin cfg0.N) :
    owns (c : Thread nD τ) (st6 t) fullShare (logOf m c) ⊢ (dats m 0 c).leavesExact 6 t := by
  unfold Dat.leavesExact
  rw [after0_6]
  by_cases ht : t.val = 0
  · rw [show cfg0.idle 6 (cfg0.grid.coords t) = false from by
      show (!(k0_cond1 (grid0.coords t) == 1#1)) = false
      rw [show k0_cond1 (grid0.coords t) = 1#1 from (atFirst_iff t).mpr ht]; rfl]
  · rw [show cfg0.idle 6 (cfg0.grid.coords t) = true from by
      show (!(k0_cond1 (grid0.coords t) == 1#1)) = true
      rw [beq_eq_false_iff_ne.mpr fun h => ht ((atFirst_iff t).mp h)]; rfl]
    cases (cfg0.win 6).flush t
    · simp only [before0_6 m c t ht]
      iintro H
      iexists default; iexact H
    · exact .rfl

/-! ## The body at a grid point -/

/-- What the body is called with at the point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 1000000 in
/-- The body at the first point takes what the launch hands over and leaves `kept`. -/
theorem sound_first (c : Dev nD) :
    bodyPre m c first ⊢ wp frame (wpE (defs₀ (F := F)) Variants.none c none) Set.univ (bodyAt0 first) (fun _ => bodyPost m c first) := by
  obtain ⟨l0, l1, l2, l3, l4, l5⟩ := leaves m c first
  unfold bodyPre bodyPost bodyAt0
  simp only [before0_0, before0_1, before0_2, before0_3, before0_4]
  rw [show (dats m 0 c).owesAt () (Fin.succ first) = (dats m 0 c).owesAt () (Fin.castSucc first) from rfl,
    show (dats m 0 c).Φ (Fin.succ first) = kept m c from rfl, held_castSucc, between_zero m c first.val (Nat.le_of_lt first.isLt) rfl, entry_eq, l0, l1, l2, l3, l4, l5]
  unfold kept
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (body_first c (grid0.coords first) (st0 first) (wh0 first) (st1 first) (wh1 first) (st2 first) (wh2 first) (st3 first) (wh3 first) (st4 first) (wh4 first) (st5 first) (wh5 first) (st6 first) (wh6 first)
    sc0 (Memref.isWhole_whole _) sc1 (Memref.isWhole_whole _) sc2 (Memref.isWhole_whole _) sc3 (Memref.isWhole_whole _) ((atFirst_iff first).mpr rfl)
    (iblk m c 0 first) (iblk m c 1 first) (iblk m c 2 first) (iblk m c 3 first) (iblk m c 4 first) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6 m c first)
  iexact H6

set_option maxHeartbeats 1000000 in
/-- The body at a later point keeps `kept` and the column of logarithms and stores the point's output columns. -/
theorem sound_later (c : Dev nD) (t : Fin cfg0.N) (ht : t.val ≠ 0) :
    bodyPre m c t ⊢ wp frame (wpE (defs₀ (F := F)) Variants.none c none) Set.univ (bodyAt0 t) (fun _ => bodyPost m c t) := by
  obtain ⟨l0, l1, l2, l3, l4, l5⟩ := leaves m c t
  unfold bodyPre bodyPost bodyAt0
  simp only [before0_0, before0_1, before0_2, before0_3, before0_4, before0_6 m c t ht]
  rw [show (dats m 0 c).owesAt () t.succ = (dats m 0 c).owesAt () t.castSucc from rfl,
    show (dats m 0 c).Φ t.succ = kept m c from rfl, held_castSucc, between_pos m c _ _ ht, l0, l1, l2, l3, l4, l5]
  unfold kept
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (body_later c (grid0.coords t) (st0 t) (wh0 t) (st1 t) (wh1 t) (st2 t) (wh2 t) (st3 t) (wh3 t) (st4 t) (wh4 t) (st5 t) (wh5 t) (st6 t) (wh6 t)
    sc0 (Memref.isWhole_whole _) sc1 (Memref.isWhole_whole _) sc2 (Memref.isWhole_whole _) sc3 (Memref.isWhole_whole _) (fun h => ht ((atFirst_iff t).mp h))
    (iblk m c 0 t) (iblk m c 1 t) (iblk m c 2 t) (iblk m c 3 t) (iblk m c 4 t) (logOf m c) (spreadOf m c) (paddedOf m c) (roundedOf m c) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6 m c t)
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht : t.val = 0
  · obtain rfl : t = first := Fin.ext ht
    exact sound_first m c
  · exact sound_later m c t ht

/-- The table's entry for the body at the point `t` is the body called with that point's buffers. -/
theorem body_row (t : Fin cfg0.N) : defs₀ (F := F) .tc cfg0.body (cfg0.bodyArgs t (cfg0.slots t)) = bodyAt0 t := by
  unfold defs₀; rw [Defs.onTc_tc]

/-- The body does at every point what the pipeline asks of it. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The launch hands over what is held before the first point, -/
theorem enters (c : Dev nD) : Pipeline.ΦA spec0 c ⊢ (dats m 0 c).Φ 0 := by
  rw [show (dats m 0 c).Φ 0 = Pipeline.ΦA spec0 c from rfl]

/-- and what is held after the last point gives it back. -/
theorem leavesΦ (c : Dev nD) : (dats m 0 c).Φ (Fin.last cfg0.N) ⊢ Pipeline.ΦA spec0 c := by
  rw [show (dats m 0 c).Φ (Fin.last cfg0.N) = between m c cfg0.N le_rfl from rfl,
    between_pos m c _ _ (by rw [show cfg0.N = 8 from N_0]; decide), entry_eq]
  unfold kept
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexact HS3
  iexact Hg

/-! ## The run -/

set_option backward.isDefEq.respectTransparency.types false in
set_option maxHeartbeats 800000 in
/-- Every run of the kernel ends with the arrays as the proof data say and with all counters at zero. -/
theorem run_quiet : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := leavesΦ m)

/-- The same without the counters. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- Every run of the kernel ends with its arguments unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiet m ρ))

end Cert.KernelIdeal.Fused

end
-- ==== Proof.Softmax.lean ====
module

public import Idealize.ShloMosaic.Lib.Pointwise

@[expose] public section

noncomputable section

namespace Cert.Mixture

open Idealize.ShloMosaic

/-- The greatest of `b` and the eight values `z`. -/
def top (b : EReal) (z : Fin 8 → EReal) : EReal := Finset.univ.fold max b z

/-- The softmax of the eight values `z`, the greatest taken from `b` on. -/
def soft (b : EReal) (z : Fin 8 → EReal) (k : Fin 8) : EReal :=
  Ideal.div (Ideal.exp (z k - top b z)) (∑ j, Ideal.exp (z j - top b z))

/-- Taking the greater of the starting value and the greatest changes nothing. -/
theorem max_top (b : EReal) (z : Fin 8 → EReal) : max b (top b z) = top b z :=
  max_eq_right ((Finset.le_fold_max b).2 (Or.inl le_rfl))

/-- The pattern of minus infinity denotes `⊥`. -/
theorem negInf : Ideal.ofBits .f32 0xFF800000#32 = ⊥ := by
  simp [Ideal.ofBits, Ideal.ieee]

/-- The pattern of plus infinity denotes `⊤`. -/
theorem posInf : Ideal.ofBits .f32 0x7F800000#32 = ⊤ := by
  simp [Ideal.ofBits, Ideal.ieee]

/-- The greatest of finite values, from `⊥` on, is finite. -/
theorem top_finite (z : Fin 8 → EReal) (h : ∀ k, z k ≠ ⊥ ∧ z k ≠ ⊤) : ∃ t : ℝ, top ⊥ z = t := by
  have h1 : top ⊥ z ≠ ⊤ := ((Finset.fold_max_lt ⊤).2 ⟨bot_lt_top, fun k _ => lt_top_iff_ne_top.2 (h k).2⟩).ne
  have h0 : top ⊥ z ≠ ⊥ :=
    (lt_of_lt_of_le (bot_lt_iff_ne_bot.2 (h 0).1) ((Finset.le_fold_max (z 0)).2 (Or.inr ⟨0, Finset.mem_univ _, le_rfl⟩))).ne'
  exact ⟨(top ⊥ z).toReal, (EReal.coe_toReal h1 h0).symm⟩

/-- A softmax weight of finite values is a nonnegative real number. -/
theorem soft_real (z : Fin 8 → EReal) (h : ∀ k, z k ≠ ⊥ ∧ z k ≠ ⊤) (k : Fin 8) : ∃ p : ℝ, 0 ≤ p ∧ soft ⊥ z k = p := by
  obtain ⟨t, ht⟩ := top_finite z h
  have hz : ∀ j, Ideal.exp (z j - top ⊥ z) = ((Real.exp ((z j).toReal - t) : ℝ) : EReal) := fun j => by
    rw [ht, ← EReal.coe_toReal (h j).2 (h j).1, ← EReal.coe_sub]; rfl
  have hs : (∑ j, Ideal.exp (z j - top ⊥ z)) = ((∑ j, Real.exp ((z j).toReal - t) : ℝ) : EReal) := by
    rw [Finset.sum_congr rfl fun j _ => hz j]
    exact (map_sum (⟨⟨Real.toEReal, EReal.coe_zero⟩, EReal.coe_add⟩ : ℝ →+ EReal) _ _).symm
  have hp : 0 < ∑ j : Fin 8, Real.exp ((z j).toReal - t) := Finset.sum_pos (fun j _ => Real.exp_pos _) ⟨0, Finset.mem_univ _⟩
  refine ⟨Real.exp ((z k).toReal - t) * (∑ j, Real.exp ((z j).toReal - t))⁻¹, by positivity, ?_⟩
  unfold soft Ideal.div
  rw [hs, hz, if_neg (by exact_mod_cast hp.ne'), EReal.coe_mul, EReal.coe_inv]

/-- The mixture two ways: the biases and the products summed apart under the weights, or together. -/
theorem mixture (p h c : Fin 8 → EReal) (hp : ∀ k, ∃ r : ℝ, 0 ≤ r ∧ p k = r) :
    ∑ k, p k * c k + ∑ k, p k * h k = ∑ k, (h k + c k) * p k := by
  rw [← Finset.sum_add_distrib]
  refine Finset.sum_congr rfl fun k _ => ?_
  obtain ⟨r, hr, e⟩ := hp k
  rw [e, EReal.right_distrib_of_nonneg_of_ne_top (by exact_mod_cast hr) (EReal.coe_ne_top r), add_comm, mul_comm _ (h k), mul_comm _ (c k)]

/-- The products added one after another onto `a`. -/
theorem sum_steps (a : EReal) (f : Fin 8 → EReal) :
    a + f 0 + f 1 + f 2 + f 3 + f 4 + f 5 + f 6 + f 7 = a + ∑ k, f k := by
  rw [Fin.sum_univ_eight]; simp only [add_assoc]

end Cert.Mixture
end
-- ==== Proof.Pure.lean ====
module

public import proofs.«01_k».proof.Proof.Kit
public import proofs.«01_k».proof.Proof.Softmax

@[expose] public section

set_option maxRecDepth 16384

noncomputable section

namespace Cert.KernelIdeal.Fused

open Idealize.ShloMosaic Idealize.ShloMosaic.TcCoe Idealize.SL.Sem
open Cert.KernelIdeal.Gen
open Cert.Mixture

/-- The one-hot entry of the row number `v` at the table row `x`. -/
theorem oneHot (v x : Fin 16) :
    (FloatOps.sitofp .f32 (BitVec.setWidth 32 (IntOp.cmpi .eq (BitVec.ofNat 32 (v : ℕ)) (BitVec.ofNat 32 (x : ℕ)))) : Ideal .f32)
      = if v = x then 1 else 0 := by
  have h : (BitVec.setWidth 32 (IntOp.cmpi .eq (BitVec.ofNat 32 (v : ℕ)) (BitVec.ofNat 32 (x : ℕ)))).toInt = if v = x then 1 else 0 := by
    revert v x; decide
  show ((((BitVec.setWidth 32 (IntOp.cmpi .eq (BitVec.ofNat 32 (v : ℕ)) (BitVec.ofNat 32 (x : ℕ)))).toInt : ℤ) : ℝ) : EReal) = _
  rw [h]; split <;> simp

/-- The one-hot row times the table is the row of the table. -/
theorem oneHot_row (g : FVec Ideal S16x8 .f32) (v : Fin 16) (k : Fin 8) :
    (∑ x : Fin 16, (FloatOps.sitofp (F := Ideal) .f32 (BitVec.setWidth 32 (IntOp.cmpi .eq (BitVec.ofNat 32 (v : ℕ)) (BitVec.ofNat 32 (x : ℕ)))) : EReal)
      * g (ix2 x k)) = g (ix2 v k) := by
  refine (Finset.sum_congr rfl fun x _ => congrArg (· * g (ix2 x k)) (oneHot v x)).trans ?_
  rw [Finset.sum_eq_single v (fun x _ hx => by rw [if_neg (Ne.symm hx), zero_mul]) fun h => absurd (Finset.mem_univ v) h,
    if_pos rfl, one_mul]

/-- A routing weight of an example whose task lies in the table: the softmax of the task's row. -/
theorem probs_at (e : Vec Ideal S2048x1 .i32) (g : Vec Ideal S16x8 .f32) (r : Fin 2048) (k : Fin 8) (v : Fin 16)
    (he : e (ix2 r 0) = BitVec.ofNat 32 v) :
    k0_pay2 e g (ix2 r k) = soft ⊥ (fun k => g (ix2 v k)) k := by
  pointwise [k0_pay2]
  rw [he]
  simp only [oneHot_row]
  rw [negInf]; rfl

/-- The logarithm the kernel stores, read at an example. -/
theorem log_at (e : Vec Ideal S2048x1 .i32) (g : Vec Ideal S16x8 .f32) (r : Fin 2048) :
    k0_pay3 e g (ix2 r 0) = Ideal.log (top ⊥ (fun k => k0_pay2 e g (ix2 r k)) + Ideal.ofBits .f32 0x3089705F#32) := by
  pointwise [k0_pay3]
  rw [negInf]; rfl

/-- A block of the kernel's first result, read at an example and a column: the biases and the products, each summed
    under the weights. -/
theorem blockOut_at (e : Vec Ideal S2048x1 .i32) (g : Vec Ideal S16x8 .f32) (xr : Vec Ideal S2048x1024 .bf16) (w : Vec Ideal S8x128x1024 .f32)
    (bb : Vec Ideal S1x128x128 .f32) (r : Fin 2048) (l : Fin 128) :
    blockOut (spread e g) (padded e g) xr w bb (ix2 r l)
      = ∑ k : Fin 8, (k0_pay2 e g (ix2 r k) : EReal) * bb (ix3 0 l ⟨(k : ℕ), by omega⟩)
        + ∑ k : Fin 8, (k0_pay2 e g (ix2 r k) : EReal) * ∑ i : Fin 1024, (xr (ix2 r i) : EReal) * w (ix3 k l i) := by
  rw [← sum_steps]
  pointwise [blockOut, spread, padded, k0_pay1, k0_pay17, k0_pay18, k0_pay16, k0_pay15, k0_pay14]
  have hz : ∀ f : Fin 120 → EReal, (∑ x, (((0#32).toInt : ℝ) : EReal) * f x) = 0 := fun f =>
    Finset.sum_eq_zero fun x _ => by simp
  rw [hz, add_zero]
  have hq : ∀ n : ℕ, (128 * n + (l : ℕ)) / 128 = n := fun n => by have := l.isLt; omega
  have h0 : (l : ℕ) / 128 = 0 := Nat.div_eq_of_lt l.isLt
  have hm : (l : ℕ) % 128 = l := Nat.mod_eq_of_lt l.isLt
  have h1 : (128 + (l : ℕ)) / 128 = 1 := hq 1
  have h2 : (256 + (l : ℕ)) / 128 = 2 := hq 2
  have h3 : (384 + (l : ℕ)) / 128 = 3 := hq 3
  have h4 : (512 + (l : ℕ)) / 128 = 4 := hq 4
  have h5 : (640 + (l : ℕ)) / 128 = 5 := hq 5
  have h6 : (768 + (l : ℕ)) / 128 = 6 := hq 6
  have h7 : (896 + (l : ℕ)) / 128 = 7 := hq 7
  simp only [h0, h1, h2, h3, h4, h5, h6, h7, hm]
  rfl

end Cert.KernelIdeal.Fused
end
-- ==== Proof.Ref.lean ====
module

public import proofs.«01_k».proof.Proof.Gen.ReferenceIdeal
public import proofs.«01_k».proof.Proof.Softmax

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Mixture

/-- The reference's row numbers: a negative one counts from the end of the table. -/
def rowNo (e : IVec S2048x1 32) : IVec S2048x1x1 32 :=
  broadcastInDim S2048x1x1 ![0, 1] bcast_S2048x1_S2048x1x1_0_1
    (select (cmpi .slt e (broadcastInDim S2048x1 ![] bcast_S_S2048x1 (constantI S_ 32 0#32)))
      (addi e (broadcastInDim S2048x1 ![] bcast_S_S2048x1 (constantI S_ 32 16#32))) e)

/-- Whether each row number lies in the table. -/
def inTable (i : IVec S2048x1x1 32) : IVec S2048x1 1 :=
  Host.reduce IntOp.andi
    (andi (cmpi .sge i (broadcastInDim S2048x1x1 ![] bcast_S_S2048x1x1 (constantI S_ 32 0#32)))
      (cmpi .sle i (broadcastInDim S2048x1x1 ![0, 1, 2] bcast_S1x1x1_S2048x1x1_0_1_2
        (broadcastInDim S1x1x1 ![2] bcast_S1_S1x1x1_2 (constantI S1 32 15#32)))))
    (constantI S_ 1 1#1) reducesTo_S2048x1x1_S2048x1_d2 h_S_

/-- The rows of the table `g` that the tasks `e` name; a row outside the table is filled with the constant. -/
def rows (g : FVec Ideal S16x8 .f32) (e : IVec S2048x1 32) : FVec Ideal S2048x1x8 .f32 :=
  select (broadcastInDim S2048x1x8 ![0, 1] bcast_S2048x1_S2048x1x8_0_1 (inTable (rowNo e)))
    (Host.gather gather_S16x8_S2048x1x1_S2048x1x8_2_0_n_n_0_2_18 g (rowNo e))
    (broadcastInDim S2048x1x8 ![] bcast_S_S2048x1x8 (constant S_ .f32 0x7FC00000#32))

/-- Eight logits per example. -/
def logits (g : FVec Ideal S16x8 .f32) (e : IVec S2048x1 32) : FVec Ideal S2048x8 .f32 :=
  shapeCast S2048x8 (rows g e) shapeCasts_S2048x1x8_S2048x8

/-- The logits less their greatest, exponentiated. -/
def expo (z : FVec Ideal S2048x8 .f32) : FVec Ideal S2048x8 .f32 :=
  Host.exp (subf z (broadcastInDim S2048x8 ![0, 1] bcast_S2048x1_S2048x8_0_1 (broadcastInDim S2048x1 ![0] bcast_S2048_S2048x1_0
    (maximumf (broadcastInDim S2048 ![] bcast_S_S2048 (constant S_ .f32 0xFF800000#32))
      (Host.reduce FloatOps.maximumf z (constant S_ .f32 0xFF800000#32) reducesTo_S2048x8_S2048_d1 h_S_)))))

/-- The routing weights: the softmax of the logits. -/
def probs (z : FVec Ideal S2048x8 .f32) : FVec Ideal S2048x8 .f32 :=
  Host.divf (expo z) (broadcastInDim S2048x8 ![0, 1] bcast_S2048x1_S2048x8_0_1 (broadcastInDim S2048x1 ![0] bcast_S2048_S2048x1_0
    (Host.reduceAdd (expo z) (constant S_ .f32 0x00000000#32) reducesTo_S2048x8_S2048_d1 h_S_)))

/-- The first result: the eight blocks' outputs, each with its bias, summed under the weights `p`. -/
def mixed (x : FVec Ideal S2048x1024 .f32) (p : FVec Ideal S2048x8 .f32) (w : FVec Ideal S8x1024x1024 .f32)
    (b : FVec Ideal S8x1024 .f32) : FVec Ideal S2048x1024 .f32 :=
  Host.reduceAdd
    (mulf
      (addf (Host.dotGeneral dot_S2048x1024_S8x1024x1024_S2048x8x1024_1_2_0_01_n_n none x w)
        (broadcastInDim S2048x8x1024 ![0, 1, 2] bcast_S1x8x1024_S2048x8x1024_0_1_2
          (broadcastInDim S1x8x1024 ![1, 2] bcast_S8x1024_S1x8x1024_1_2 b)))
      (broadcastInDim S2048x8x1024 ![0, 1, 2] bcast_S2048x8x1_S2048x8x1024_0_1_2
        (broadcastInDim S2048x8x1 ![0, 1] bcast_S2048x8_S2048x8x1_0_1 p)))
    (constant S_ .f32 0x00000000#32) reducesTo_S2048x8x1024_S2048x1024_d1 h_S_

/-- The second result: the logarithm of the greatest weight plus 1e-9. -/
def logTop (p : FVec Ideal S2048x8 .f32) : FVec Ideal S2048 .f32 :=
  addf (broadcastInDim S2048 ![] bcast_S_S2048 (constant S_ .f32 0x00000000#32))
    (Host.log (addf (Host.reduce FloatOps.maximumf p (constant S_ .f32 0xFF800000#32) reducesTo_S2048x8_S2048_d1 h_S_)
      (broadcastInDim S2048 ![] bcast_S_S2048 (constant S_ .f32 0x3089705F#32))))

/-- A routing weight read at an example and a block. -/
theorem probs_at (z : FVec Ideal S2048x8 .f32) (r : Fin 2048) (k : Fin 8) :
    probs z (ix2 r k) = soft ⊥ (fun k => z (ix2 r k)) k := by
  pointwise [probs, expo]
  have h : max (Ideal.ofBits .f32 0xFF800000#32) (Finset.fold max (Ideal.ofBits .f32 0xFF800000#32) (fun x => z (ix2 r x)) Finset.univ)
      = top ⊥ (fun k => z (ix2 r k)) := (max_top _ _).trans (congrArg (fun b => top b fun k => z (ix2 r k)) negInf)
  rw [h]; rfl

/-- The first result read at an example and an output column. -/
theorem mixed_at (x : FVec Ideal S2048x1024 .f32) (p : FVec Ideal S2048x8 .f32) (w : FVec Ideal S8x1024x1024 .f32)
    (b : FVec Ideal S8x1024 .f32) (r : Fin 2048) (o : Fin 1024) :
    mixed x p w b (ix2 r o) = ∑ k : Fin 8, ((∑ i : Fin 1024, x (ix2 r i) * w (ix3 k o i)) + b (ix2 k o)) * p (ix2 r k) := by
  pointwise [mixed]

/-- The second result read at an example. -/
theorem logTop_at (p : FVec Ideal S2048x8 .f32) (r : Fin 2048) :
    logTop p (ix1 r) = Ideal.log (top ⊥ (fun k => p (ix2 r k)) + Ideal.ofBits .f32 0x3089705F#32) := by
  pointwise [logTop]
  rw [negInf]; rfl

/-- A row number in the table is left as it is. -/
theorem rowNo_at (e : IVec S2048x1 32) (r : Fin 2048) (v : Fin 16) (he : e (ix2 r 0) = BitVec.ofNat 32 v) :
    rowNo e (ix3 r 0 0) = BitVec.ofNat 32 v := by
  pointwise [rowNo]
  rw [he]
  exact (by decide : ∀ v : Fin 16, Scalar.select (IntOp.cmpi .slt (BitVec.ofNat 32 v) 0#32)
    (IntOp.addi (BitVec.ofNat 32 v) 16#32) (BitVec.ofNat 32 v) = BitVec.ofNat 32 (v : ℕ)) v

/-- The lookup of a row of the table, read at one of the row's columns: the table there, at the row the number names. -/
theorem gather_row (g : FVec Ideal S16x8 .f32) (i : IVec S2048x1x1 32) (r : Fin 2048) (k : Fin 8) (v : Fin 16)
    (hi : i (ix3 r 0 0) = BitVec.ofNat 32 v) :
    Host.gather gather_S16x8_S2048x1x1_S2048x1x8_2_0_n_n_0_2_18 g i (ix3 r 0 k) = g (ix2 v k) := by
  have hs : ∀ c, (gather_S16x8_S2048x1x1_S2048x1x8_2_0_n_n_0_2_18).siIdx (ix3 r 0 k) c = ix3 r 0 0 := fun c => by
    funext b
    match b with
    | ⟨0, _⟩ => rfl
    | ⟨1, _⟩ => rfl
    | ⟨2, _⟩ => exact Subsingleton.elim (α := Fin 1) _ _
  unfold Host.gather
  refine congrArg g (funext fun a => Fin.ext ?_)
  match a with
  | ⟨0, _⟩ =>
    have hv : min (BitVec.ofNat 32 (v : ℕ)).toInt.toNat (16 - 1) = v := (by decide : ∀ v : Fin 16, min (BitVec.ofNat 32 (v : ℕ)).toInt.toNat (16 - 1) = v) v
    refine Eq.trans (b := min (i ((gather_S16x8_S2048x1x1_S2048x1x8_2_0_n_n_0_2_18).siIdx (ix3 r 0 k) ⟨0, by decide⟩)).toInt.toNat (16 - 1)) rfl ?_
    rw [hs, hi]; exact hv
  | ⟨1, _⟩ => exact Nat.zero_add _

/-- The logits of an example whose task lies in the table: the task's row. -/
theorem logits_at (g : FVec Ideal S16x8 .f32) (e : IVec S2048x1 32) (r : Fin 2048) (k : Fin 8) (v : Fin 16)
    (he : e (ix2 r 0) = BitVec.ofNat 32 v) :
    logits g e (ix2 r k) = g (ix2 v k) := by
  pointwise [logits, rows, inTable]
  rw [gather_row g (rowNo e) r k v (rowNo_at e r v he)]
  have hm : ∀ x : Fin 1, rowNo e (ix3 r 0 x) = BitVec.ofNat 32 v := fun x => by
    rw [Subsingleton.elim x 0]; exact rowNo_at e r v he
  simp only [hm]
  have h1 : Finset.fold IntOp.andi 1#1 (fun _ : Fin 1 => IntOp.andi (IntOp.cmpi .sge (BitVec.ofNat 32 (v : ℕ)) 0#32)
      (IntOp.cmpi .sle (BitVec.ofNat 32 (v : ℕ)) 15#32)) Finset.univ = 1#1 := by
    clear he hm; revert v; decide
  rw [h1]; rfl

end Cert.ReferenceIdeal.Value
end
-- ==== Proof.Value.lean ====
module

public import proofs.«01_k».proof.Proof.Body
public import proofs.«01_k».proof.Proof.Pure
public import proofs.«01_k».proof.Proof.Ref
public import Idealize.ShloMosaic.Lib.Claim

@[expose] public section

set_option maxRecDepth 16384

noncomputable section

namespace Cert.KernelIdeal.Fused

open Idealize.ShloMosaic Idealize.ShloMosaic.TcCoe Idealize.SL.Sem
open Idealize.ShloMosaic.Pipeline (Dat)
open Cert.KernelIdeal.Gen
open Cert.Mixture

variable (m : (ℓ : Loc nD τ sig) → Buf (Elt Ideal) ℓ)

/-- Where each window's block lies at each grid point. -/
theorem idx : ∀ t : Fin cfg0.N, win0_0.index t = ![0, 0] ∧ win0_1.index t = ![0, 0] ∧ win0_2.index t = ![0, 0]
    ∧ win0_3.index t = ![0, t.val, 0] ∧ win0_4.index t = ![t.val, 0, 0] ∧ win0_5.index t = ![0, t.val] ∧ win0_6.index t = ![0, 0] :=
  (by decide +kernel : ∀ t : Fin grid0.N, _)

/-- The arguments: the input, the tasks, the logits, the blocks' weights and the biases. -/
abbrev argX (c : Dev nD) : FVec Ideal S2048x1024 .f32 := m ((c : Thread nD τ).loc main_arg0)
/-- The task numbers. -/
abbrev argE (c : Dev nD) : IVec S2048x1 32 := m ((c : Thread nD τ).loc main_arg1)
/-- The table of logits. -/
abbrev argG (c : Dev nD) : FVec Ideal S16x8 .f32 := m ((c : Thread nD τ).loc main_arg3)
/-- The experts' matrices. -/
abbrev argW (c : Dev nD) : FVec Ideal S8x1024x1024 .f32 := m ((c : Thread nD τ).loc main_arg4)
/-- The experts' biases. -/
abbrev argB (c : Dev nD) : FVec Ideal S8x1024 .f32 := m ((c : Thread nD τ).loc main_arg5)

/-- The block of tasks is all the tasks, -/
theorem iblk0 (c : Dev nD) (t : Fin cfg0.N) : iblk m c 0 t = argE m c := by blk_ext! [iblk, V, idx t]
/-- the block of logits all the logits, -/
theorem iblk1 (c : Dev nD) (t : Fin cfg0.N) : iblk m c 1 t = argG m c := by blk_ext! [iblk, V, idx t]
/-- and the block of the input all of it. -/
theorem iblk2 (c : Dev nD) (t : Fin cfg0.N) : iblk m c 2 t = argX m c := by blk_ext! [iblk, V, idx t]

/-- There are eight grid points. -/
theorem lt8 (t : Fin cfg0.N) : t.val < 8 := Nat.lt_of_lt_of_eq t.isLt N_0

/-- The block of weights at the point `t` is rows `128 t` on of each of the eight matrices. -/
theorem iblk3_at (c : Dev nD) (t : Fin cfg0.N) (k : Fin 8) (l : Fin 128) (i : Fin 1024) :
    iblk m c 3 t (ix3 k l i) = argW m c (ix3 k ⟨t.val * 128 + l, by have := lt8 t; omega⟩ i) := by
  blk_ext [iblk, V, idx t]

/-- The biases as the kernel is handed them: transposed, each column's eight followed by 120 zeros, in tiles of 128 columns. -/
def padBias (b : FVec Ideal S8x1024 .f32) : FVec Ideal S8x128x128 .f32 :=
  shapeCast S8x128x128
    (concatenate S1024x128 1
      [⟨S1024x8, transpose S1024x8 [1, 0] b transposes_S8x1024_S1024x8_1_0⟩,
       ⟨S1024x120, broadcastInDim S1024x120 ![] bcast_S_S1024x120 (constant S_ .f32 0x00000000#32)⟩]
      concatenates_S1024x8_S1024x120_S1024x128_d1) shapeCasts_S1024x128_S8x128x128

/-- What the region finds in the array of biases. -/
theorem V_biases (c : Dev nD) : V m c main_v3 = padBias (argB m c) := by
  unfold V V0
  simp only [hostOps0, List.flatten_cons, List.flatten_nil, List.append_nil, List.cons_append, List.nil_append]
  after_results
  rfl

/-- A bias in its tile. -/
theorem padBias_at (b : FVec Ideal S8x1024 .f32) (s : Fin 8) (l : Fin 128) (k : Fin 8) :
    padBias b (ix3 s l ⟨k, by omega⟩) = b (ix2 k ⟨s.val * 128 + l, by omega⟩) := by
  pointwise [padBias]

/-- The block of biases at the point `t`, at a column and one of the first eight lanes: the lane's bias of the column. -/
theorem iblk4_at (c : Dev nD) (t : Fin cfg0.N) (l : Fin 128) (k : Fin 8) :
    iblk m c 4 t (ix3 0 l ⟨k, by omega⟩) = argB m c (ix2 k ⟨t.val * 128 + l, by have := lt8 t; omega⟩) := by
  have h : iblk m c 4 t (ix3 0 l ⟨k, by omega⟩) = V m c main_v3 (ix3 ⟨t.val, lt8 t⟩ l ⟨k, by omega⟩) := by
    blk_ext [iblk, idx t]
  exact h.trans ((congrFun (V_biases m c) _).trans (padBias_at (argB m c) ⟨t.val, lt8 t⟩ l k))

/-- The first result's block at the point `t`, read at an example and a column. -/
theorem outOf_at (c : Dev nD) (t : Fin cfg0.N) (r : Fin 2048) (l : Fin 128) :
    outOf m c t (ix2 r l)
      = ∑ k : Fin 8, (k0_pay2 (F := Ideal) (argE m c) (argG m c) (ix2 r k) : EReal) * argB m c (ix2 k ⟨t.val * 128 + l, by have := lt8 t; omega⟩)
        + ∑ k : Fin 8, (k0_pay2 (F := Ideal) (argE m c) (argG m c) (ix2 r k) : EReal)
          * ∑ i : Fin 1024, (argX m c (ix2 r i) : EReal) * argW m c (ix3 k ⟨t.val * 128 + l, by have := lt8 t; omega⟩ i) := by
  unfold outOf spreadOf paddedOf roundedOf
  rw [iblk0, iblk1, iblk2]
  refine (blockOut_at _ _ _ _ _ r l).trans ?_
  refine congrArg₂ (· + ·) (Finset.sum_congr rfl fun k _ => congrArg _ (iblk4_at m c t l k))
    (Finset.sum_congr rfl fun k _ => congrArg _ (Finset.sum_congr rfl fun i _ => congrArg₂ (· * ·) ?_ (iblk3_at m c t k l i)))
  pointwise [k0_pay4]

/-- What is asked of the arguments: every task is a row number of the table, and every logit is finite. -/
def Fit (c : Dev nD) : Prop :=
  (∀ r : Fin 2048, ∃ v : Fin 16, argE m c (ix2 r 0) = BitVec.ofNat 32 v)
    ∧ ∀ (v : Fin 16) (k : Fin 8), argG m c (ix2 v k) ≠ ⊥ ∧ argG m c (ix2 v k) ≠ ⊤

/-- The reference's routing weights. -/
abbrev refProbs (c : Dev nD) : FVec Ideal Cert.ReferenceIdeal.S2048x8 .f32 :=
  Cert.ReferenceIdeal.Value.probs (Cert.ReferenceIdeal.Value.logits (argG m c) (argE m c))

/-- The kernel's routing weights are the reference's. -/
theorem probs_eq (c : Dev nD) (h : Fit m c) (r : Fin 2048) (k : Fin 8) :
    k0_pay2 (F := Ideal) (argE m c) (argG m c) (ix2 r k) = refProbs m c (ix2 r k) := by
  obtain ⟨v, hv⟩ := h.1 r
  rw [probs_at _ _ r k v hv]
  refine ((Cert.ReferenceIdeal.Value.probs_at _ r k).trans ?_).symm
  exact congrArg (fun z => soft ⊥ z k) (funext fun k => Cert.ReferenceIdeal.Value.logits_at _ _ r k v hv)

/-- They are nonnegative real numbers. -/
theorem probs_real (c : Dev nD) (h : Fit m c) (r : Fin 2048) (k : Fin 8) :
    ∃ p : ℝ, 0 ≤ p ∧ (k0_pay2 (F := Ideal) (argE m c) (argG m c) (ix2 r k) : EReal) = p := by
  obtain ⟨v, hv⟩ := h.1 r
  rw [probs_at _ _ r k v hv]
  exact soft_real _ (h.2 v) k

/-- The kernel's first result is the reference's: the blocks' columns, put together. -/
theorem final5 (c : Dev nD) (h : Fit m c) : (dats m 0 c).arrAt 5 (cfgs 0).N
    = Cert.ReferenceIdeal.Value.mixed (argX m c) (refProbs m c) (argW m c) (argB m c) := by
  refine (dats m 0 c).arrAt_eq_of_covers 5 _ (by decide +kernel) fun t hf y => ?_
  blk_simp
  rw [after0_5]
  idx_vars y
  have hp : ((View.whole main_v4_0).slice (win0_5.rect t)).emb (ix2 y0 y1)
      = (ix2 y0 ⟨t.val * 128 + y1, by have := lt8 t; omega⟩ : S2048x1024.Idx) := by blk_ext [idx t]
  rw [hp]
  refine (outOf_at m c t y0 y1).trans ?_
  refine (mixture _ _ _ (probs_real m c h y0)).trans ?_
  refine Eq.trans ?_ (Cert.ReferenceIdeal.Value.mixed_at _ _ _ _ y0 _).symm
  exact Finset.sum_congr rfl fun k _ => congrArg _ (probs_eq m c h y0 k)

/-- The kernel's column of logarithms. -/
theorem final6 (c : Dev nD) : (dats m 0 c).arrAt 6 (cfgs 0).N = k0_pay3 (F := Ideal) (argE m c) (argG m c) := by
  refine (dats m 0 c).arrAt_eq_of_covers 6 _ (by decide +kernel) fun t hf y => ?_
  blk_simp
  rw [after0_6]
  idx_vars y
  have hp : ((View.whole main_v4_1).slice (win0_6.rect t)).emb (ix2 y0 y1) = (ix2 y0 y1 : S2048x1.Idx) := by blk_ext [idx t]
  rw [hp]
  unfold logOf
  rw [iblk0, iblk1]

/-- After the host's last lines the second result is the kernel's column, as a vector. -/
theorem tail5 (c : Dev nD) : Pipeline.afterTail₀ cfgs (dats m) 0 (V0 m) [hostOps1] c main_v5
    = shapeCast S2048 ((dats m 0 c).arrAt 6 (cfgs 0).N) shapeCasts_S2048x1_S2048 := by
  unfold Pipeline.afterTail₀
  simp only [hostOps1, List.flatten_cons, List.flatten_nil, List.append_nil, List.cons_append, List.nil_append]
  after_results
  exact congrArg (fun v => shapeCast S2048 v shapeCasts_S2048x1_S2048)
    (Pipeline.withArrays_arr (cfgs 0).spec (by decide) c (V0 m c) (fun w => (dats m 0 c).arrAt w (cfgs 0).N) 6)

/-- After the host's last lines the third result is zero. -/
theorem tail0 (c : Dev nD) : Pipeline.afterTail₀ cfgs (dats m) 0 (V0 m) [hostOps1] c main_cst_0
    = constant (F := Ideal) S_ .f32 0x00000000#32 := by
  unfold Pipeline.afterTail₀
  simp only [hostOps1, List.flatten_cons, List.flatten_nil, List.append_nil, List.cons_append, List.nil_append]
  after_results

end Cert.KernelIdeal.Fused
end
-- ==== Proof.Asked.lean ====
module

public import proofs.«01_k».proof.Proof.Gen.Pre_tasks_and_logits_ok
public import proofs.«01_k».proof.Proof.Softmax
public import Idealize.ShloMosaic.Lib.ReduceAll
public import Idealize.ShloMosaic.Lib.StableHlo.Predicate

@[expose] public section

set_option maxRecDepth 16384

noncomputable section

namespace Cert.Pre_tasks_and_logits_ok

open Idealize.ShloMosaic Idealize.ShloMosaic.TcCoe
open Cert.Mixture

/-- A word that is at least 0 and less than 16, read signed, is one of the first sixteen numbers. -/
theorem word_small (b : BitVec 32) (h0 : IntOp.cmpi .sge b 0#32 = 1#1) (h1 : IntOp.cmpi .slt b 16#32 = 1#1) :
    ∃ v : Fin 16, b = BitVec.ofNat 32 v := by
  have a0 : (0 : ℤ) ≤ b.toInt := by simpa using IntOp.cmpi_sge.1 h0
  have a1 : b.toInt < 16 := by simpa using IntOp.cmpi_slt.1 h1
  have hb : b.toNat < 16 := by
    have := b.isLt
    rw [BitVec.toInt_eq_toNat_cond] at a0 a1
    split at a0 <;> omega
  exact ⟨⟨b.toNat, hb⟩, by simp⟩

/-- An extended real whose absolute value is below plus infinity is finite. -/
theorem finite_of_abs (x : EReal) (h : max x (-x) < ⊤) : x ≠ ⊥ ∧ x ≠ ⊤ := by
  refine ⟨fun e => ?_, fun e => ?_⟩ <;> subst e <;> simp at h

/-- What the precondition says of the tasks: each is a row number of the table. -/
theorem tasks (x : FVec Ideal S2048x1024 .f32) (e : IVec S2048x1 32) (w g : FVec Ideal S16x8 .f32)
    (wb : FVec Ideal S8x1024x1024 .f32) (b : FVec Ideal S8x1024 .f32) (h : fn x e w g wb b = fun _ => 1#1) (r : Fin 2048) :
    ∃ v : Fin 16, e (ix2 r 0) = BitVec.ofNat 32 v := by
  have h0 := congrFun h (fun a => a.elim0)
  have h1 := Host.reduce_andi_all _ _ _ _ _ (IntOp.andi_eq_one.1 h0).1 (ix2 r 0)
  pointwise at h1
  exact word_small _ (IntOp.andi_eq_one.1 h1).1 (IntOp.andi_eq_one.1 h1).2

/-- What the precondition says of the logits: each is finite. -/
theorem logits (x : FVec Ideal S2048x1024 .f32) (e : IVec S2048x1 32) (w g : FVec Ideal S16x8 .f32)
    (wb : FVec Ideal S8x1024x1024 .f32) (b : FVec Ideal S8x1024 .f32) (h : fn x e w g wb b = fun _ => 1#1) (v : Fin 16) (k : Fin 8) :
    g (ix2 v k) ≠ ⊥ ∧ g (ix2 v k) ≠ ⊤ := by
  have h0 := congrFun h (fun a => a.elim0)
  have h1 := Host.reduce_andi_all _ _ _ _ _ (IntOp.andi_eq_one.1 h0).2 (ix2 v k)
  pointwise at h1
  rw [posInf] at h1
  exact finite_of_abs _ (of_decide_eq_true ((StableHlo.Predicate.ofBool_eq_one_iff _).1 h1))

end Cert.Pre_tasks_and_logits_ok
end
-- ==== Proof.Claims.lean ====
module

public import proofs.«01_k».proof.Defs
public import proofs.«01_k».proof.Proof.Value
public import proofs.«01_k».proof.Proof.Asked
public import proofs.«01_k».proof.Proof.Gen.ReferenceIdeal
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem
open Cert.KernelIdeal.Fused

/-- The precondition gives what the value proof asks of the arguments. -/
theorem fit (m : (ℓ : Loc Cert.KernelIdeal.nD Cert.KernelIdeal.τ Cert.KernelIdeal.sig) → Buf (Elt Ideal) ℓ)
    (h : Cert.Pre_KernelIdeal_tasks_and_logits_ok m) (c : Dev Cert.KernelIdeal.nD) : Fit m c :=
  ⟨Cert.Pre_tasks_and_logits_ok.tasks _ _ _ _ _ _ (h c), Cert.Pre_tasks_and_logits_ok.logits _ _ _ _ _ _ (h c)⟩

/-- The second result: the kernel's column of logarithms, as a vector, is the reference's vector. -/
theorem log_eq (m : (ℓ : Loc Cert.KernelIdeal.nD Cert.KernelIdeal.τ Cert.KernelIdeal.sig) → Buf (Elt Ideal) ℓ)
    (c : Dev Cert.KernelIdeal.nD) (h : Fit m c) :
    shapeCast Cert.KernelIdeal.S2048 (Cert.KernelIdeal.Gen.k0_pay3 (F := Ideal) (argE m c) (argG m c))
        Cert.KernelIdeal.Gen.shapeCasts_S2048x1_S2048
      = Cert.ReferenceIdeal.Value.logTop (refProbs m c) := by
  funext i
  idx_vars i
  pointwise
  refine (log_at _ _ i0).trans (Eq.trans ?_ (Cert.ReferenceIdeal.Value.logTop_at _ i0).symm)
  exact congrArg (fun z => Ideal.log (Cert.Mixture.top ⊥ z + Ideal.ofBits .f32 0x3089705F#32)) (funext fun k => probs_eq m c h i0 k)

set_option maxHeartbeats 1600000 in
/-- Every run of the reference ends with its arguments as launched and every counter at zero. -/
theorem frame_reference : Cert.quiescent_ReferenceIdeal := by
  intro m g _
  hlo_run
  · exact fun _ => ⟨trivial, trivial, trivial, trivial, trivial, trivial⟩
  · exact sem_eq_zero_of_no_sems (sig := Cert.ReferenceIdeal.sig) (by decide) _

set_option maxHeartbeats 1600000 in
/-- The kernel's three results are the reference's, over the extended reals. -/
theorem algebraic : Cert.algebraic_KernelIdeal_ReferenceIdeal_pre_tasks_and_logits_ok := by
  pair_intro
  · run_from Cert.KernelIdeal.Fused.run m g
    · exact Cert.KernelIdeal.Gen.W_main_arg2 m (dats m) c
    · exact Cert.KernelIdeal.Gen.W_main_arg5 m (dats m) c
  · hlo_run
    · refine Eq.trans ?_ (final5 m c (fit m hpre c)).symm
      simp only [StableHlo.TRef.ofBuf_toBuf]
      rfl
    · refine Eq.trans ?_ ((tail5 m c).trans ((congrArg (fun v => shapeCast Cert.KernelIdeal.S2048 v Cert.KernelIdeal.Gen.shapeCasts_S2048x1_S2048) (final6 m c)).trans (log_eq m c (fit m hpre c)))).symm
      simp only [StableHlo.TRef.ofBuf_toBuf]
      rfl
    · exact (tail0 m c).symm

end Cert.Proof
end
-- ==== Proof.Machine.lean ====
module

public import proofs.«01_k».proof.Defs
public import proofs.«01_k».proof.Proof.Gen.Kernel
public import proofs.«01_k».proof.Proof.Body

@[expose] public section

set_option maxRecDepth 16384

noncomputable section

namespace Cert.Proof

open Idealize.ShloMosaic Idealize.SL.Sem

set_option backward.isDefEq.respectTransparency.types false

/-- The kernel's body table is that of its ideal reading, at the machine's floats: the two programs are one text. -/
theorem defs₀_eq : (Cert.Kernel.defs₀ (F := Bits)) = Cert.KernelIdeal.defs₀ (F := Bits) := by
  refine congrArg (Defs.onTc (nD := Cert.Kernel.nD) (τ := Cert.Kernel.τ) (sig := Cert.Kernel.sig) (Val := Elt Bits) (Λ := Cert.Kernel.Λ₀)) ?_
  funext l a
  match l, a with
  | 0, (t, s) => rfl

/-- So is the table with the pipeline's own bodies. -/
theorem defs_eq : (Cert.Kernel.defs (F := Bits)) = Cert.KernelIdeal.defs (F := Bits) :=
  congrArg (Pipeline.defs (Cert.Kernel.pcfgs (F := Bits))) defs₀_eq

/-- Every run of the kernel at the machine's floats ends with its arguments unchanged and all counters at zero. -/
theorem frame_kernel : Cert.quiescent_Kernel := fun m ρ _ => by
  rw [defs_eq]
  exact Cert.KernelIdeal.Fused.frame (F := Bits) m ρ

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tasks_and_logits_ok
public import proofs.«01_k».proof.Proof.Body
public import proofs.«01_k».proof.Proof.Claims
public import proofs.«01_k».proof.Proof.Machine
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_tasks_and_logits_ok.Gen.facts,
  frame_kernel,
  fun m ρ _ => Cert.KernelIdeal.Fused.frame m ρ,
  fun m ρ _ => Cert.KernelIdeal.Fused.frame m ρ,
  frame_reference,
  fun m ρ _ => frame_reference m ρ trivial,
  trivial,
  algebraic⟩

end Cert.Proof

end
